-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128 : Shape := ⟨2, ![16, 128]⟩
abbrev S16x4096x128 : Shape := ⟨3, ![16, 4096, 128]⟩
abbrev S16 : Shape := ⟨1, ![16]⟩
abbrev S128x128 : Shape := ⟨2, ![128, 128]⟩
abbrev S128 : Shape := ⟨1, ![128]⟩
abbrev S16x1 : Shape := ⟨2, ![16, 1]⟩
abbrev S1x128 : Shape := ⟨2, ![1, 128]⟩
abbrev S16x4096 : Shape := ⟨2, ![16, 4096]⟩
abbrev S8x16x512x128 : Shape := ⟨4, ![8, 16, 512, 128]⟩
abbrev S8 : Shape := ⟨1, ![8]⟩
abbrev S1 : Shape := ⟨1, ![1]⟩
abbrev S_ : Shape := ⟨0, ![]⟩
abbrev S1x16x512x128 : Shape := ⟨4, ![1, 16, 512, 128]⟩
abbrev S16x512x128 : Shape := ⟨3, ![16, 512, 128]⟩
abbrev S8192x128 : Shape := ⟨2, ![8192, 128]⟩
abbrev S16x1x128 : Shape := ⟨3, ![16, 1, 128]⟩
abbrev S16x512 : Shape := ⟨2, ![16, 512]⟩

abbrev nBuf : Space → Nat
  | .hbm => 14
  | .vmem => 9
  | .smem => 0
  | _ => 0

abbrev bufTy : (tb : Table) → Fin (tcTables nBuf tb) → BufTy
  | .hbm, ⟨0, _⟩ => ⟨S16x128, .f32⟩
  | .hbm, ⟨1, _⟩ => ⟨S16x4096x128, .f32⟩
  | .hbm, ⟨2, _⟩ => ⟨S16, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x1, .i32⟩
  | .hbm, ⟨8, _⟩ => ⟨S1x128, .f32⟩
  | .hbm, ⟨9, _⟩ => ⟨S1x128, .f32⟩
  | .hbm, ⟨10, _⟩ => ⟨S16x4096, .f32⟩
  | .hbm, ⟨11, _⟩ => ⟨S16x128, .i32⟩
  | .hbm, ⟨12, _⟩ => ⟨S16x1, .i32⟩
  | .hbm, ⟨13, _⟩ => ⟨S16, .i32⟩
  | .local _ .vmem, ⟨0, _⟩ => ⟨S16x128, .f32⟩
  | .local _ .vmem, ⟨1, _⟩ => ⟨S16x1, .i32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S16x4096, .f32⟩
  | .local _ .vmem, ⟨7, _⟩ => ⟨S16x128, .i32⟩
  | .local _ .vmem, ⟨8, _⟩ => ⟨S8x16x512x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0_0 : Ref sig .tc := ⟨.hbm, 10, rfl⟩
abbrev main_call0_v3_1 : Ref sig .tc := ⟨.hbm, 11, rfl⟩
abbrev main_call0_v4 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16x128 : Shape := ⟨2, ![16, 128]⟩
abbrev S16x4096x128 : Shape := ⟨3, ![16, 4096, 128]⟩
abbrev S16 : Shape := ⟨1, ![16]⟩
abbrev S128x128 : Shape := ⟨2, ![128, 128]⟩
abbrev S128 : Shape := ⟨1, ![128]⟩
abbrev S1x128 : Shape := ⟨2, ![1, 128]⟩
abbrev S_ : Shape := ⟨0, ![]⟩
abbrev S16x1x128 : Shape := ⟨3, ![16, 1, 128]⟩
abbrev S1x1x128 : Shape := ⟨3, ![1, 1, 128]⟩
abbrev S16x4096 : Shape := ⟨2, ![16, 4096]⟩
abbrev S4096 : Shape := ⟨1, ![4096]⟩
abbrev S1x4096 : Shape := ⟨2, ![1, 4096]⟩
abbrev S16x1 : Shape := ⟨2, ![16, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x4096x128, .f32⟩
  | .hbm, ⟨2, _⟩ => ⟨S16, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S1x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x1x128, .f32⟩
  | .hbm, ⟨15, _⟩ => ⟨S16x4096x128, .f32⟩
  | .hbm, ⟨16, _⟩ => ⟨S1x1x128, .f32⟩
  | .hbm, ⟨17, _⟩ => ⟨S16x4096x128, .f32⟩
  | .hbm, ⟨18, _⟩ => ⟨S16x4096x128, .f32⟩
  | .hbm, ⟨19, _⟩ => ⟨S_, .f32⟩
  | .hbm, ⟨20, _⟩ => ⟨S16x4096x128, .f32⟩
  | .hbm, ⟨21, _⟩ => ⟨S16x4096x128, .f32⟩
  | .hbm, ⟨22, _⟩ => ⟨S16x4096x128, .f32⟩
  | .hbm, ⟨23, _⟩ => ⟨S16x4096x128, .f32⟩
  | .hbm, ⟨24, _⟩ => ⟨S_, .f32⟩
  | .hbm, ⟨25, _⟩ => ⟨S16x4096, .f32⟩
  | .hbm, ⟨26, _⟩ => ⟨S4096, .i32⟩
  | .hbm, ⟨27, _⟩ => ⟨S1x4096, .i32⟩
  | .hbm, ⟨28, _⟩ => ⟨S16x1, .i32⟩
  | .hbm, ⟨29, _⟩ => ⟨S16x4096, .i32⟩
  | .hbm, ⟨30, _⟩ => ⟨S16x4096, .i32⟩
  | .hbm, ⟨31, _⟩ => ⟨S16x4096, .i1⟩
  | .hbm, ⟨32, _⟩ => ⟨S_, .f32⟩
  | .hbm, ⟨33, _⟩ => ⟨S_, .f32⟩
  | .hbm, ⟨34, _⟩ => ⟨S16x4096, .f32⟩
  | .hbm, ⟨35, _⟩ => ⟨S16x4096, .f32⟩
  | .hbm, ⟨36, _⟩ => ⟨S16x4096, .i32⟩
  | .hbm, ⟨37, _⟩ => ⟨S_, .f32⟩
  | .hbm, ⟨38, _⟩ => ⟨S_, .i32⟩
  | .hbm, ⟨39, _⟩ => ⟨S16, .f32⟩
  | .hbm, ⟨40, _⟩ => ⟨S16, .i32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_call2_v0 : Ref sig .tc := ⟨.hbm, 33, rfl⟩
abbrev main_call2_v1 : Ref sig .tc := ⟨.hbm, 34, rfl⟩
abbrev main_v20 : Ref sig .tc := ⟨.hbm, 35, rfl⟩
abbrev main_call3_v0 : Ref sig .tc := ⟨.hbm, 36, rfl⟩
abbrev main_call3_cst : Ref sig .tc := ⟨.hbm, 37, rfl⟩
abbrev main_call3_c : Ref sig .tc := ⟨.hbm, 38, rfl⟩
abbrev main_call3_v1_0 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Proof.Setup.lean ====
/- The ideal kernel's set-up: what its one run is stated over. The kernel starts eight copies of its own from HBM into
   scratch, so everything here is stated over the resources that hold such transfers (`Pipeline.UD`). -/
module

public import proofs.«01_k».proof.Proof.Gen.KernelIdeal.Frame
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main is three reshapes, then the region, then a slice and a reshape. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer that the two operations after the region do not write and that no window is over ends as the region found it. -/
theorem tail_keeps (dats : (p : Fin _) → (c : Dev nD) → Dat τ (Elt F) Unit ℕ (Pipeline.UD sig nD τ) ℕ (cfgs p) c) (c : Dev nD)
    (b : Ref sig .tc) (h4 : b ≠ main_call0_v4) (h5 : b ≠ main_v0_1) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        StableHlo.reshape_writes, Finset.mem_singleton]
      exact ⟨StableHlo.devRef_ne_of_ne h4, StableHlo.devRef_ne_of_ne h5⟩)),
    Pipeline.withArrays_of_ne _ c (V0 m c) _ b hw]

/-! ## The memrefs, the semaphores and the operand the body copies -/

/-- The buffer the body is handed for each window, and that it is whole. -/
abbrev ms0_0 (t : Fin cfg0.N) : Memref sig .tc .vmem S16x128 .f32 := win0_0.stage (cfg0.slots t 0)
abbrev hs0_0 (t : Fin cfg0.N) : (ms0_0 t).IsWhole := hstage0_0 0
abbrev ms0_1 (t : Fin cfg0.N) : Memref sig .tc .vmem S16x1 .i32 := win0_1.stage (cfg0.slots t 1)
abbrev hs0_1 (t : Fin cfg0.N) : (ms0_1 t).IsWhole := hstage0_1 0
abbrev ms0_2 (t : Fin cfg0.N) : Memref sig .tc .vmem S128x128 .f32 := win0_2.stage (cfg0.slots t 2)
abbrev hs0_2 (t : Fin cfg0.N) : (ms0_2 t).IsWhole := hstage0_2 0
abbrev ms0_3 (t : Fin cfg0.N) : Memref sig .tc .vmem S1x128 .f32 := win0_3.stage (cfg0.slots t 3)
abbrev hs0_3 (t : Fin cfg0.N) : (ms0_3 t).IsWhole := hstage0_3 0
abbrev ms0_4 (t : Fin cfg0.N) : Memref sig .tc .vmem S128x128 .f32 := win0_4.stage (cfg0.slots t 4)
abbrev hs0_4 (t : Fin cfg0.N) : (ms0_4 t).IsWhole := hstage0_4 0
abbrev ms0_5 (t : Fin cfg0.N) : Memref sig .tc .vmem S1x128 .f32 := win0_5.stage (cfg0.slots t 5)
abbrev hs0_5 (t : Fin cfg0.N) : (ms0_5 t).IsWhole := hstage0_5 0
abbrev ms0_6 (t : Fin cfg0.N) : Memref sig .tc .vmem S16x4096 .f32 := win0_6.stage (cfg0.slots t 6)
abbrev hs0_6 (t : Fin cfg0.N) : (ms0_6 t).IsWhole := hstage0_6 0
abbrev ms0_7 (t : Fin cfg0.N) : Memref sig .tc .vmem S16x128 .i32 := win0_7.stage (cfg0.slots t 7)
abbrev hs0_7 (t : Fin cfg0.N) : (ms0_7 t).IsWhole := hstage0_7 0
/-- The scratch of eight slots. -/
abbrev scM0_0 : Memref sig .tc .vmem S8x16x512x128 .f32 := Memref.whole cc0_scratch0
/-- The values, left in HBM for the body to copy. -/
abbrev hbM0_0 : Memref sig .tc .hbm S16x4096x128 .f32 := Memref.whole main_arg1
/-- What the buffer under a memref may hold on core `c`, and that buffer owned whole with those contents. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The eight semaphores of the body's own copies, none of them a window's. -/
abbrev osem0 : Fin 8 → SemLoc sig := fun j => (![SemLoc.dma 8, SemLoc.dma 9, SemLoc.dma 10, SemLoc.dma 11, SemLoc.dma 12, SemLoc.dma 13, SemLoc.dma 14, SemLoc.dma 15] : Fin 8 → SemLoc sig) j
theorem ownSemFacts0 : Pipeline.OwnSemFacts spec0 osem0 := by decide
/-- All eight at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5, 6, 7] (by decide) (by decide)]; rfl
/-- The one operand the body copies itself. -/
def H0 : Finset (Ref sig .tc) := {main_arg1}
theorem H0_sub : H0 ⊆ Pipeline.restRefs sig spec0 := by decide
/-- The two operations after the region leave that operand alone. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- That operand owned as the region finds it. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- What the body borrows besides the windows and gives back: the scratch, the generator register, its eight semaphores at
    zero and the values in HBM. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg1))) := by
  rw [Pipeline.ΦD_eq, scopedRest0_eq, ownSems00_eq, hbmPts0_eq]; simp only [scM0_0, owns_whole]; try rfl

end Cert.KernelIdeal.Net

end
-- ==== Proof.Chunk.lean ====
/- What the kernel computes, written once for all eight chunks: the values of one chunk of 512 positions, the running maximum
   with its position, and the two results after the last chunk. The printed payloads of the eight chunks are instances of
   these functions (`Proof/Body.lean`). -/
module

public import proofs.«01_k».proof.Proof.Gen.KernelIdeal.Skeleton
public import Idealize.ShloMosaic.Lib.Pointwise.Index

@[expose] public section

noncomputable section

namespace Cert.KernelIdeal.Net

open Cert.KernelIdeal.Gen
open Idealize.ShloMosaic Idealize.SL.Sem

variable {F : FTy → Type} [FloatOps F]

/-! ## One chunk -/

/-- The rows `k`: `relu (stim · W + b)`. -/
def keys (stim : Vec F S16x128 .f32) (w : Vec F S128x128 .f32) (b : Vec F S1x128 .f32) : FVec F S16x128 .f32 :=
  k0_pay4 (k0_pay3 stim w) b

/-- One chunk's values: at (row, position) the sum over the hidden axis of `relu (z · W + b)` times the row's `k`. -/
def chunkX (k : FVec F S16x128 .f32) (w : Vec F S128x128 .f32) (b : Vec F S1x128 .f32) (z : FVec F S16x512x128 .f32) :
    FVec F S16x512 .f32 :=
  multiReduction .add [2] S16x512
    (mulf
      (shapeCast S16x512x128
        (maximumf
          (addf (matmul dot_S8192x128_S128x128_S8192x128_1_0_0_1_n_n none
              (shapeCast S8192x128 z shapeCasts_S16x512x128_S8192x128) w (constant S8192x128 .f32 0x00000000#32))
            (broadcastTo S8192x128 (k0_pay5 b) broadcasts_S1x128_S8192x128))
          (broadcast S8192x128 (Scalar.ofBits .f32 0x00000000#32)))
        shapeCasts_S8192x128_S16x512x128)
      (broadcastTo S16x512x128 (shapeCast S16x1x128 k shapeCasts_S16x128_S16x1x128) broadcasts_S16x1x128_S16x512x128))
    0x00000000#32 reduces_S16x512x128_S16x512 (.inl rfl) rfl

/-- The positions of a chunk that starts at position `o`. -/
def chunkPos (o : BitVec 32) : IVec S16x512 32 :=
  addi (iota .tc S16x512 32 [1] iota_S16x512_d1_w32) (broadcast S16x512 o)

/-- A chunk's values with -∞ at the positions past the row's length. -/
def chunkMasked (o : BitVec 32) (l : IVec S16x1 32) (x : FVec F S16x512 .f32) : FVec F S16x512 .f32 :=
  select (cmpi .slt (chunkPos o) (broadcastTo S16x512 l broadcasts_S16x1_S16x512)) x
    (broadcast S16x512 (Scalar.ofBits .f32 0xFF800000#32))

/-- A chunk's maximum, row by row. -/
def chunkMax (o : BitVec 32) (l : IVec S16x1 32) (x : FVec F S16x512 .f32) : FVec F S16x1 .f32 :=
  shapeCast S16x1
    (multiReduction .maximumf [1] S16 (chunkMasked o l x) 0xFF800000#32 reduces_S16x512_S16 (.inl rfl) rfl)
    shapeCasts_S16_S16x1

/-- The same maximum on every lane. -/
def chunkMaxLanes (o : BitVec 32) (l : IVec S16x1 32) (x : FVec F S16x512 .f32) : FVec F S16x128 .f32 :=
  broadcastTo S16x128 (shapeCast S16x1 (chunkMax o l x) shapeCasts_S16x1_S16x1) broadcasts_S16x1_S16x128

/-- The least position of a chunk that holds its row's maximum, on every lane. -/
def chunkArgLanes (o : BitVec 32) (l : IVec S16x1 32) (x : FVec F S16x512 .f32) : IVec S16x128 32 :=
  broadcastTo S16x128
    (shapeCast S16x1
      (shapeCast S16x1
        (multiReductionI .minsi [1] S16
          (select (cmpf .oeq (chunkMasked o l x) (broadcastTo S16x512 (chunkMax o l x) broadcasts_S16x1_S16x512)) (chunkPos o)
            (broadcast S16x512 1073741824#32))
          2147483647#32 reduces_S16x512_S16 rfl)
        shapeCasts_S16_S16x1)
      shapeCasts_S16x1_S16x1)
    broadcasts_S16x1_S16x128

/-- Does the chunk's maximum take the place of the running one: it is larger, or equal at a smaller position. -/
def better (o : BitVec 32) (l : IVec S16x1 32) (s : FVec F S16x128 .f32 × IVec S16x128 32) (x : FVec F S16x512 .f32) : IVec S16x128 1 :=
  ori (cmpf .ogt (chunkMaxLanes o l x) s.1)
    (andi (cmpf .oeq (chunkMaxLanes o l x) s.1) (cmpi .slt (chunkArgLanes o l x) s.2))

/-- One chunk's step of the running maximum and its position. -/
def step (o : BitVec 32) (l : IVec S16x1 32) (s : FVec F S16x128 .f32 × IVec S16x128 32) (x : FVec F S16x512 .f32) :
    FVec F S16x128 .f32 × IVec S16x128 32 :=
  (select (better o l s x) (chunkMaxLanes o l x) s.1, select (better o l s x) (chunkArgLanes o l x) s.2)

/-- The running maximum and its position after the first `n` chunks, the chunks' values being `x`. -/
def running (l : IVec S16x1 32) (x : Fin 8 → FVec F S16x512 .f32) : ℕ → FVec F S16x128 .f32 × IVec S16x128 32
  | 0 => (k0_pay7, k0_pay8)
  | n + 1 => step (BitVec.ofNat 32 (512 * n)) l (running l x n) (x (Fin.ofNat 8 n))

/-! ## The whole kernel -/

theorem part_inb (i : Fin 8) : ∀ a, (![0, 512 * i.val, 0] : Fin 3 → ℕ) a + S16x512x128.size a ≤ S16x4096x128.size a := by
  intro a; have := i.isLt; fin_cases a <;> simp [S16x512x128, S16x4096x128] <;> omega

/-- Chunk `i` of the inputs: positions `512 i` to `512 i + 511`. -/
def part (v : Vec F S16x4096x128 .f32) (i : Fin 8) : Vec F S16x512x128 .f32 := fun j =>
  v ((Rect.unit (s := S16x4096x128) ![0, 512 * i.val, 0] S16x512x128.size (part_inb i)).emb j)

/-- The chunks' values, one after the other. -/
def chunks (stim : Vec F S16x128 .f32) (wk : Vec F S128x128 .f32) (bk : Vec F S1x128 .f32) (wv : Vec F S128x128 .f32)
    (bv : Vec F S1x128 .f32) (z : Fin 8 → Vec F S16x512x128 .f32) (i : Fin 8) : FVec F S16x512 .f32 :=
  chunkX (keys stim wk bk) wv bv (z i)

/-- The first result: position `p` of a row is position `p % 512` of chunk `p / 512`. -/
def joined (x : Fin 8 → FVec F S16x512 .f32) : Vec F S16x4096 .f32 := fun y =>
  x ⟨(y 1).val / 512, by have := (y 1).isLt; simp [S16x4096] at this; omega⟩
    (ix2 (n0 := 16) (n1 := 512) (y 0) ⟨(y 1).val % 512, Nat.mod_lt _ (by decide)⟩)

/-- The position of the row's maximum on every lane, after all eight chunks. -/
def argmaxLanes (lens : Vec F S16x1 .i32) (x : Fin 8 → FVec F S16x512 .f32) : Vec F S16x128 .i32 :=
  (running (k0_pay6 (F := F) lens) x 8).2

/-- The kernel's first result as a function of its operands. -/
def outX (stim : Vec F S16x128 .f32) (wk : Vec F S128x128 .f32) (bk : Vec F S1x128 .f32) (wv : Vec F S128x128 .f32)
    (bv : Vec F S1x128 .f32) (v : Vec F S16x4096x128 .f32) : Vec F S16x4096 .f32 :=
  joined (chunks stim wk bk wv bv (part v))

/-- The kernel's second result, on every lane, as a function of its operands. -/
def outIdx (stim : Vec F S16x128 .f32) (lens : Vec F S16x1 .i32) (wk : Vec F S128x128 .f32) (bk : Vec F S1x128 .f32)
    (wv : Vec F S128x128 .f32) (bv : Vec F S1x128 .f32) (v : Vec F S16x4096x128 .f32) : Vec F S16x128 .i32 :=
  argmaxLanes lens (chunks stim wk bk wv bv (part v))

end Cert.KernelIdeal.Net

end
-- ==== Proof.Slots.lean ====
/- The scratch ring: eight slots, each filled by one copy. What a slot reads after all eight copies have landed. -/
module

public import proofs.«01_k».proof.Proof.Chunk
public import Idealize.ShloMosaic.Lib.Pipeline.Value
public import Idealize.ShloMosaic.Lib.ViewIndex
public import Idealize.ShloMosaic.Lib.WholeRead

@[expose] public section

noncomputable section

namespace Cert.KernelIdeal.Net

open Cert.KernelIdeal.Gen
open Idealize.ShloMosaic Idealize.SL.Sem

variable {F : FTy → Type} [FloatOps F]

theorem slot_inb (i : Fin 8) : ∀ a, (![i.val, 0, 0, 0] : Fin 4 → ℕ) a + S1x16x512x128.size a ≤ S8x16x512x128.size a := by
  intro a; have := i.isLt; fin_cases a <;> simp [S1x16x512x128, S8x16x512x128] <;> omega

/-- Slot `i`'s rectangle of the scratch. -/
abbrev slotRect (i : Fin 8) : Rect S8x16x512x128 := Rect.unit (s := S8x16x512x128) ![i.val, 0, 0, 0] S1x16x512x128.size (slot_inb i)

/-- What a load of slot `i` gives, its leading unit axis dropped. -/
def slotRead (M : Memref sig .tc .vmem S8x16x512x128 .f32) (f : M.view.ty.Contents (Elt F)) (i : Fin 8) : Vec F S16x512x128 .f32 :=
  shapeCast S16x512x128 (M.view.readAt (Elt F) (slotRect i).toLoadRect f) shapeCasts_S1x16x512x128_S16x512x128

/-- The scratch's contents after a copy of `w` into slot `i`. -/
def slotWrite (M : Memref sig .tc .vmem S8x16x512x128 .f32) (i : Fin 8) (f : M.view.ty.Contents (Elt F)) (w : Vec F S16x512x128 .f32) :
    M.view.ty.Contents (Elt F) :=
  View.write (Elt F) ((M.slice (slotRect i) (fun _ => rfl)).squeeze S16x512x128 squeezes_S1x16x512x128_S16x512x128).view f w Finset.univ

/-- A slot reads what was copied into it. -/
theorem slotRead_slotWrite_self (M : Memref sig .tc .vmem S8x16x512x128 .f32) (i : Fin 8) (f : M.view.ty.Contents (Elt F))
    (w : Vec F S16x512x128 .f32) : slotRead M (slotWrite M i f w) i = w :=
  (Memref.read_squeeze_slice M (slotRect i) (fun _ => rfl) squeezes_S1x16x512x128_S16x512x128
    shapeCasts_S1x16x512x128_S16x512x128 (slotWrite M i f w)).symm.trans (View.read_write_univ
      (v := ((M.slice (slotRect i) (fun _ => rfl)).squeeze S16x512x128 squeezes_S1x16x512x128_S16x512x128).view) f w)

/-- Two slots share no element. -/
theorem slotRect_disjoint {i j : Fin 8} (h : i ≠ j) : Disjoint (slotRect i).set (slotRect j).set := by
  rw [Finset.disjoint_left]
  intro y hi
  obtain ⟨a, ha, ea⟩ := (slotRect i).mem_set.mp hi 0
  have ha' : a < 1 := ha
  have ea' : (y 0).val = i.val + 1 * a := ea
  have hv : i.val ≠ j.val := fun e => h (Fin.ext e)
  exact (slotRect j).not_mem_set_of_axis y 0 j.val 1 rfl rfl rfl (by omega)

/-- A slot is not touched by a copy into another. -/
theorem slotRead_slotWrite_of_ne (M : Memref sig .tc .vmem S8x16x512x128 .f32) {i j : Fin 8} (h : i ≠ j)
    (f : M.view.ty.Contents (Elt F)) (w : Vec F S16x512x128 .f32) : slotRead M (slotWrite M j f w) i = slotRead M f i := by
  have hd : Disjoint (M.view.slice (slotRect i)).set (M.view.slice (slotRect j)).set := View.disjoint_slice (slotRect_disjoint h)
  have hs : ((M.slice (slotRect j) (fun _ => rfl)).squeeze S16x512x128 squeezes_S1x16x512x128_S16x512x128).view.set
      = (M.view.slice (slotRect j)).set := View.set_reshape _ _
  have key : (M.view.slice (slotRect i)).read (Elt F) (slotWrite M j f w) = (M.view.slice (slotRect i)).read (Elt F) f := by
    refine View.read_congr fun x hx => View.write_of_not_mem _ _ _ fun hm => ?_
    rw [View.setOn_univ, hs] at hm
    exact Finset.disjoint_left.mp hd hx hm
  unfold slotRead
  rw [View.readAt_rect, View.readAt_rect, key]

/-- The scratch after the eight copies, in the order they are started. -/
def landed (M : Memref sig .tc .vmem S8x16x512x128 .f32) (f : M.view.ty.Contents (Elt F)) (z : Fin 8 → Vec F S16x512x128 .f32) :
    M.view.ty.Contents (Elt F) :=
  slotWrite M 7 (slotWrite M 6 (slotWrite M 5 (slotWrite M 4 (slotWrite M 3 (slotWrite M 2 (slotWrite M 1
    (slotWrite M 0 f (z 0)) (z 1)) (z 2)) (z 3)) (z 4)) (z 5)) (z 6)) (z 7)

/-- After the eight copies every slot reads its own copy, whatever the scratch held before. -/
theorem slotRead_landed (M : Memref sig .tc .vmem S8x16x512x128 .f32) (f : M.view.ty.Contents (Elt F))
    (z : Fin 8 → Vec F S16x512x128 .f32) : slotRead M (landed M f z) = z := by
  funext i
  fin_cases i <;>
    simp [landed, slotRead_slotWrite_self, slotRead_slotWrite_of_ne]

/-- A load of a whole memref is what it holds. -/
theorem load_whole {s : Shape} {e : EltTy} {M : Memref sig .tc .vmem s e} (h : M.IsWhole) (x : s.Idx → Elt F e)
    {off : Fin s.rank → ℕ} (h0 : ∀ a, off a = 0) (inb : ∀ a, off a + s.size a ≤ s.size a) :
    M.view.readAt (Elt F) (Rect.unit off s.size inb).toLoadRect (h.unread x) = x := by
  funext y
  rw [h.readAt_unread]
  congr 1
  funext a
  apply Fin.ext
  show off a + 1 * (y a).val = (y a).val
  rw [h0]; omega

/-! ## The first result's buffer: eight stores side by side -/

theorem store_inb (i : Fin 8) : ∀ a, (![0, 512 * i.val] : Fin 2 → ℕ) a + S16x512.size a ≤ S16x4096.size a := by
  intro a; have := i.isLt; fin_cases a <;> simp [S16x512, S16x4096] <;> omega

/-- Chunk `i`'s store of its values. -/
def storeOf (x : Fin 8 → FVec F S16x512 .f32) (i : Fin 8) : View.Piece (Elt F) S16x4096 .f32 :=
  ⟨Rect.unit (s := S16x4096) ![0, 512 * i.val] S16x512.size (store_inb i), x i⟩

/-- The eight stores, the last one first. -/
def stores (x : Fin 8 → FVec F S16x512 .f32) : List (View.Piece (Elt F) S16x4096 .f32) :=
  [storeOf x 7, storeOf x 6, storeOf x 5, storeOf x 4, storeOf x 3, storeOf x 2, storeOf x 1, storeOf x 0]

theorem mem_stores (x : Fin 8 → FVec F S16x512 .f32) (i : Fin 8) : storeOf x i ∈ stores x := by
  fin_cases i <;> simp [stores]

theorem exists_of_mem_stores {x : Fin 8 → FVec F S16x512 .f32} {p : View.Piece (Elt F) S16x4096 .f32} (h : p ∈ stores x) :
    ∃ i, p = storeOf x i := by
  simp only [stores, List.mem_cons, List.not_mem_nil, or_false] at h
  rcases h with h | h | h | h | h | h | h | h <;> exact ⟨_, h⟩

/-- A store agrees with the joined values. -/
theorem storeOf_apply (x : Fin 8 → FVec F S16x512 .f32) (i : Fin 8) (j : S16x512.Idx) :
    x i j = joined x ((Rect.unit (s := S16x4096) ![0, 512 * i.val] S16x512.size (store_inb i)).emb j) := by
  have hj : (j 1).val < 512 := (j 1).isLt
  have e0 : ((Rect.unit (s := S16x4096) ![0, 512 * i.val] S16x512.size (store_inb i)).emb j 0).val = 0 + 1 * (j 0).val := rfl
  have e1 : ((Rect.unit (s := S16x4096) ![0, 512 * i.val] S16x512.size (store_inb i)).emb j 1).val = 512 * i.val + 1 * (j 1).val := rfl
  unfold joined
  congr 1
  · congr 1
    exact Fin.ext (by show i.val = _ / 512; rw [e1]; omega)
  · refine (eq_ix2 (n0 := 16) (n1 := 512) j).trans ?_
    refine congrArg₂ ix2 (Fin.ext ?_) (Fin.ext ?_)
    · show (j 0).val = _; rw [e0]; omega
    · show (j 1).val = _ % 512; rw [e1]; omega

/-- The buffer after the eight stores holds the joined values, whatever it held before. -/
theorem read_stores (v : View sig .tc .vmem S16x4096 .f32) (f : v.ty.Contents (Elt F)) (x : Fin 8 → FVec F S16x512 .f32) :
    v.read (Elt F) (v.writes (Elt F) f (stores x)) = joined x := by
  funext y
  refine View.read_writes_apply_of_pieces v f (joined x) (stores x) ?_ y ?_
  · intro p hp j
    obtain ⟨i, rfl⟩ := exists_of_mem_stores hp
    exact storeOf_apply x i j
  · have hy0 : (y 0).val < 16 := (y 0).isLt
    have hy : (y 1).val < 4096 := (y 1).isLt
    refine ⟨_, mem_stores x ⟨(y 1).val / 512, by omega⟩, (Rect.mem_set_unit (inb := store_inb ⟨(y 1).val / 512, by omega⟩)).mpr fun a => ?_⟩
    fin_cases a
    · exact ⟨Nat.zero_le _, by show (y 0).val < 0 + 16; omega⟩
    · exact ⟨by show 512 * ((y 1).val / 512) ≤ (y 1).val; omega, by show (y 1).val < 512 * ((y 1).val / 512) + 512; omega⟩

/-- A buffer after one store over all of it holds what was stored. -/
theorem read_store_whole {s : Shape} {e : EltTy} (v : View sig .tc .vmem s e) (f : v.ty.Contents (Elt F)) {off : Fin s.rank → ℕ}
    (h0 : ∀ a, off a = 0) (inb : ∀ a, off a + s.size a ≤ s.size a) (w : s.Idx → Elt F e) :
    v.read (Elt F) (v.writes (Elt F) f [⟨Rect.unit off s.size inb, w⟩]) = w := by
  funext y
  refine View.read_writes_apply_of_pieces v f w _ ?_ y
    ⟨_, List.mem_singleton_self _, (Rect.mem_set_unit (inb := inb)).mpr fun a => by rw [h0 a]; exact ⟨Nat.zero_le _, by have := (y a).isLt; omega⟩⟩
  intro p hp j
  rw [List.mem_singleton] at hp
  subst hp
  show w j = w _
  congr 1
  funext a
  apply Fin.ext
  show (j a).val = off a + 1 * (j a).val
  rw [h0]; omega

end Cert.KernelIdeal.Net

end
-- ==== Proof.Stage.lean ====
/- The running maximum of the kernel, chunk by chunk: the values that the body's run names are the steps of `running`. -/
module

public import proofs.«01_k».proof.Proof.Chunk

@[expose] public section

set_option maxRecDepth 16384

noncomputable section

namespace Cert.KernelIdeal.Net

open Cert.KernelIdeal.Gen
open Idealize.ShloMosaic Idealize.ShloMosaic.TcCoe Idealize.ShloMosaic.Tactic

variable {F : FTy → Type} [FloatOps F]

/-- One more chunk. -/
theorem running_succ (l : IVec S16x1 32) (x : Fin 8 → FVec F S16x512 .f32) (n : ℕ) {s : FVec F S16x128 .f32 × IVec S16x128 32}
    (h : running l x n = s) : running l x (n + 1) = step (BitVec.ofNat 32 (512 * n)) l s (x (Fin.ofNat 8 n)) := by rw [← h]; rfl

/-- The second result as the body's run leaves it, every value that the run names given by the equation that computes it from
    the values before it (`mᵢ` and `pᵢ` the running maximum and position after chunk `i`): it is the position that `running`
    ends with. -/
theorem argmaxLanes_of_steps {a : Vec F S16x128 .f32} {wk : Vec F S128x128 .f32} {b : Vec F S1x128 .f32} {w : Vec F S128x128 .f32}
    {bv : Vec F S1x128 .f32} {lens : Vec F S16x1 .i32} {z : Fin 8 → Vec F S1x16x512x128 .f32}
    {z0 z1 z2 z3 z4 z5 z6 z7 : Vec F S1x16x512x128 .f32}
    {l : IVec S16x1 32} {k0 k : FVec F S16x128 .f32} {v : FVec F S1x128 .f32} {m1 m2 m3 m4 m5 m6 m7 : FVec F S16x128 .f32}
    {p1 p2 p3 p4 p5 p6 p7 : IVec S16x128 32} {x0 x6 t5 u5 : FVec F S16x512 .f32} {q4 : FVec F S16x1 .f32} {q5 : FVec F S16x1 .f32}
    {j4 : IVec S16x128 32} {y1 : FVec F S8192x128 .f32} {d7 : FVec F S16x512x128 .f32}
    (hd7 : d7 = k0_pay75 k w v z7)
    (hm7 : m7 = k0_pay73 l m6 p6 x6 k0_pay67)
    (hp7 : p7 = k0_pay74 l m6 p6 x6 k0_pay67)
    (hx6 : x6 = k0_pay66 k w v z6)
    (hm6 : m6 = k0_pay64 m5 p5 k0_pay57 t5 q5 u5)
    (hp6 : p6 = k0_pay65 m5 p5 k0_pay57 t5 q5 u5)
    (ht5 : t5 = k0_pay58 k w v l z5)
    (hq5 : q5 = k0_pay59 k w v l z5)
    (hu5 : u5 = k0_pay60 k w v l z5)
    (hm5 : m5 = k0_pay54 m4 p4 q4 j4)
    (hp5 : p5 = k0_pay55 m4 p4 q4 j4)
    (hq4 : q4 = k0_pay50 k w v l z4)
    (hj4 : j4 = k0_pay51 k w v l z4)
    (hm4 : m4 = k0_pay45 k w v l m3 p3 z3)
    (hp4 : p4 = k0_pay46 k w v l m3 p3 z3)
    (hm3 : m3 = k0_pay36 k w v l m2 p2 z2)
    (hp3 : p3 = k0_pay37 k w v l m2 p2 z2)
    (hm2 : m2 = k0_pay27 k l m1 p1 y1 k0_pay19)
    (hp2 : p2 = k0_pay28 k l m1 p1 y1 k0_pay19)
    (hy1 : y1 = k0_pay18 w v z1)
    (hm1 : m1 = k0_pay16 l k0_pay7 k0_pay8 x0)
    (hp1 : p1 = k0_pay17 l k0_pay7 k0_pay8 x0)
    (hx0 : x0 = k0_pay9 k0 b w bv z0)
    (hk : k = k0_pay4 k0 b)
    (hk0 : k0 = k0_pay3 a wk)
    (hv : v = k0_pay5 bv)
    (hl : l = k0_pay6 (F := F) lens)
    (hz0 : z0 = z 0)
    (hz1 : z1 = z 1)
    (hz2 : z2 = z 2)
    (hz3 : z3 = z 3)
    (hz4 : z4 = z 4)
    (hz5 : z5 = z 5)
    (hz6 : z6 = z 6)
    (hz7 : z7 = z 7)
    : k0_pay2 l m7 p7 d7
      = argmaxLanes lens (chunks a wk b w bv fun i => shapeCast S16x512x128 (z i) shapeCasts_S1x16x512x128_S16x512x128) := by
  subst hz0 hz1 hz2 hz3 hz4 hz5 hz6 hz7 hl hv hk0 hk
  have h0 : running (k0_pay6 (F := F) lens) (chunks a wk b w bv fun i => shapeCast S16x512x128 (z i) shapeCasts_S1x16x512x128_S16x512x128) 0
      = (k0_pay7, k0_pay8) := rfl
  have h1 := running_succ _ _ 0 h0
  rw [show step _ _ _ _ = (m1, p1) from by subst hm1 hp1 hx0; rfl] at h1
  have h2 := running_succ _ _ 1 h1
  rw [show step _ _ _ _ = (m2, p2) from by subst hm2 hp2 hy1; rfl] at h2
  have h3 := running_succ _ _ 2 h2
  rw [show step _ _ _ _ = (m3, p3) from by subst hm3 hp3 ; rfl] at h3
  have h4 := running_succ _ _ 3 h3
  rw [show step _ _ _ _ = (m4, p4) from by subst hm4 hp4 ; rfl] at h4
  have h5 := running_succ _ _ 4 h4
  rw [show step _ _ _ _ = (m5, p5) from by subst hm5 hp5 hq4 hj4; rfl] at h5
  have h6 := running_succ _ _ 5 h5
  rw [show step _ _ _ _ = (m6, p6) from by subst hm6 hp6 ht5 hq5 hu5; rfl] at h6
  have h7 := running_succ _ _ 6 h6
  rw [show step _ _ _ _ = (m7, p7) from by subst hm7 hp7 hx6; rfl] at h7
  subst hd7
  exact (congrArg Prod.snd (running_succ _ _ 7 h7)).symm

end Cert.KernelIdeal.Net

end
-- ==== Proof.Body.lean ====
/- The ideal kernel's body, run once: from its staged operands and the operand in HBM to its two results, named. -/
module

public import proofs.«01_k».proof.Proof.Setup
public import proofs.«01_k».proof.Proof.Slots
public import proofs.«01_k».proof.Proof.Stage
public import proofs.«01_k».proof.Proof.Gen.KernelIdeal.Skeleton
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The offsets of a load or store of a whole rank-two buffer are zero. -/
theorem zero2 : ∀ a : Fin 2, (![0, 0] : Fin 2 → ℕ) a = 0 := by decide

set_option maxHeartbeats 1000000 in set_option sl_exec.dmaWindow true in set_option sl_exec.dmaWindowSet true in
/-- The body's run, once over memrefs: from the inputs' staging buffers, the outputs', the scratch, the eight counters at
    zero and the array left in HBM it ends with the inputs as they were, the two outputs at `outX` and `outIdx`, the
    counters at zero again and the array in HBM as it was. -/
theorem body_run (c : Dev nD) (arg0 : Memref sig .tc .vmem S16x128 .f32) (harg0 : arg0.IsWhole) (arg2 : Memref sig .tc .vmem S16x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S16x4096 .f32) (harg7 : arg7.IsWhole) (arg8 : Memref sig .tc .vmem S16x128 .i32) (harg8 : arg8.IsWhole) (arg9 : Memref sig .tc .vmem S8x16x512x128 .f32) (harg9 : arg9.IsWhole)
    (x0 : Vec F S16x128 .f32) (x1 : Vec F S16x1 .i32) (x2 : Vec F S128x128 .f32) (x3 : Vec F S1x128 .f32) (x4 : Vec F S128x128 .f32) (x5 : Vec F S1x128 .f32) (fh0 : HbBuf0 (F := F) c hbM0_0) :
      ∀ (W : Waits sig Unit) (K : PUnit → sProp 𝕄),
        iprop(owns (c : Thread nD τ) arg0 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ owes (c : Thread nD τ) 0 W
            ∗ (iprop(owns (c : Thread nD τ) arg0 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outX x0 x2 x3 x4 x5 (hbM0_0.view.read (Elt F) fh0)) ∗ owns (c : Thread nD τ) arg8 fullShare (outIdx x0 x1 x2 x3 x4 x5 (hbM0_0.view.read (Elt F) fh0)) ∗ (∃ d, owns (c : Thread nD τ) arg9 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0__net_tree_kernel arg0 harg0 (Memref.whole main_arg1) (Memref.isWhole_whole _) arg2 harg2 arg3 harg3 arg4 harg4 arg5 harg5 arg6 harg6 arg7 harg7 arg8 harg8 arg9 harg9 cc0_scratch1) K := by
    intro W K
    simp only [cc0__net_tree_kernel_eq_skeleton]; unfold cc0__net_tree_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg0.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg0.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (show _ = arg7.view.read (Elt F) (arg7.view.writes (Elt F) f6 (stores (chunks
          (arg0.view.readAt (Elt F) (Rect.unit ![0, 0] S16x128.size inb_S16x128_S16x128_0_0).toLoadRect (harg0.unread x0))
          (arg3.view.readAt (Elt F) (Rect.unit ![0, 0] S128x128.size inb_S128x128_S128x128_0_0).toLoadRect (harg3.unread x2))
          (arg4.view.readAt (Elt F) (Rect.unit ![0, 0] S1x128.size inb_S1x128_S1x128_0_0).toLoadRect (harg4.unread x3))
          (arg5.view.readAt (Elt F) (Rect.unit ![0, 0] S128x128.size inb_S128x128_S128x128_0_0).toLoadRect (harg5.unread x4))
          (arg6.view.readAt (Elt F) (Rect.unit ![0, 0] S1x128.size inb_S1x128_S1x128_0_0).toLoadRect (harg6.unread x5))
          (slotRead arg9 (landed arg9 fs0 (part (hbM0_0.view.read (Elt F) fh0))))))) from rfl).trans ?_
      rw [slotRead_landed, load_whole harg0 x0 zero2, load_whole harg3 x2 zero2, load_whole harg4 x3 zero2,
        load_whole harg5 x4 zero2, load_whole harg6 x5 zero2]
      exact read_stores _ _ _
    isplitl [H7]
    · iexists _; isplitr; swap; · iexact H7
      ipureintro
      refine (read_store_whole _ _ zero2 _ _).trans ?_
      refine Eq.trans (argmaxLanes_of_steps
        (z := fun i => arg9.view.readAt (Elt F) (slotRect i).toLoadRect (landed arg9 fs0 (part (hbM0_0.view.read (Elt F) fh0))))
        rfl rfl rfl rfl rfl rfl rfl rfl rfl rfl rfl rfl rfl rfl rfl rfl rfl rfl rfl rfl rfl rfl rfl rfl rfl rfl rfl rfl rfl rfl rfl rfl rfl rfl rfl) ?_
      rw [load_whole harg0 x0 zero2, load_whole harg3 x2 zero2, load_whole harg4 x3 zero2,
        show body_run.sl.r_2 c arg5 harg5 x4 = x4 from load_whole harg5 x4 zero2 _, load_whole harg6 x5 zero2, load_whole harg2 x1 zero2]
      exact congrArg (fun z => argmaxLanes x1 (chunks x0 x2 x3 x4 x5 z)) (slotRead_landed arg9 fs0 (part (hbM0_0.view.read (Elt F) fh0)))
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.KernelIdeal.Net

end
-- ==== Proof.Launch.lean ====
/- The ideal kernel's launch: the pipeline's proof data with both results named, the body's obligation, and the run of
   @main with what every array holds at the end. -/
module

public import proofs.«01_k».proof.Proof.Body
public import Idealize.ShloMosaic.Lib.Pipeline.FrameSuffix
public import Idealize.ShloMosaic.Lib.Pipeline.ValueKit
public import Idealize.ShloMosaic.Lib.Claim

@[expose] public section

set_option maxRecDepth 16384

noncomputable section

namespace Cert.KernelIdeal.Net

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result from the operands' blocks at a point, -/
def xAt (c : Dev nD) (t : Fin cfg0.N) : Vec F S16x4096 .f32 :=
  outX (iblk m c 0 t) (iblk m c 2 t) (iblk m c 3 t) (iblk m c 4 t) (iblk m c 5 t) (hbM0_0.view.read (Elt F) (V m c main_arg1))

/-- and the second one, on every lane. -/
def lanesAt (c : Dev nD) (t : Fin cfg0.N) : Vec F S16x128 .i32 :=
  outIdx (iblk m c 0 t) (iblk m c 1 t) (iblk m c 2 t) (iblk m c 3 t) (iblk m c 4 t) (iblk m c 5 t)
    (hbM0_0.view.read (Elt F) (V m c main_arg1))

/-- The proof data of the one pipeline on core `c`: the arrays as the region finds them; after the body each input's buffer
    at its block and each output's at its result; the scratch, the register, the body's own counters at zero and the operand
    in HBM in the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => xAt m c t
    | ⟨7, _⟩ => lanesAt m c t
  Φ _ := Pipeline.ΦD osem0 spec0 H0 (V m) c
  q _ := fullShare
  owed _ := 0

/-- The pipeline's arrays are as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = xAt m c t := by dsimp only [dats]
theorem after0_7 (c : Dev nD) (t : Fin cfg0.N) : (dats m 0 c).after 7 t = lanesAt m c t := by dsimp only [dats]

/-- An input window's buffer holds the window's block when the body starts, for the body leaves that block in it. -/
theorem before_in (c : Dev nD) (w : Fin cfg0.W) (hin : (cfg0.win w).isOut = false)
    (hcut : ∀ t t' : Fin cfg0.N, (cfg0.win w).clip (cfg0.grid.coords t) = (cfg0.win w).clip (cfg0.grid.coords t'))
    (hkeep : ∀ t, (cfg0.win w).cut (cfg0.grid.coords t) ((dats m 0 c).after w t) = iblk m c w t) (t : Fin cfg0.N) (d) :
    (dats m 0 c).before w t d = (cfg0.win w).fill (cfg0.grid.coords t) d (iblk m c w t) := by
  have hblk : ∀ t, (dats m 0 c).blockOf w t = iblk m c w t := fun t => by unfold Dat.blockOf iblk; rw [A_eq]
  refine ((dats m 0 c).before_in_eq_fetched w hin (fun _ => rfl) (fun t t' _ => hcut t t') (fun t => ?_) t d).trans ?_
  · rw [hblk]; exact hkeep t
  · unfold Dat.fetched; rw [hblk]

theorem before0_0 (c : Dev nD) (t : Fin cfg0.N) (d) : (dats m 0 c).before 0 t d = iblk m c 0 t :=
  before_in m c 0 rfl (fun _ _ => rfl) (after0_0 m c) t d
theorem before0_1 (c : Dev nD) (t : Fin cfg0.N) (d) : (dats m 0 c).before 1 t d = iblk m c 1 t :=
  before_in m c 1 rfl (fun _ _ => rfl) (after0_1 m c) t d
theorem before0_2 (c : Dev nD) (t : Fin cfg0.N) (d) : (dats m 0 c).before 2 t d = iblk m c 2 t :=
  before_in m c 2 rfl (fun _ _ => rfl) (after0_2 m c) t d
theorem before0_3 (c : Dev nD) (t : Fin cfg0.N) (d) : (dats m 0 c).before 3 t d = iblk m c 3 t :=
  before_in m c 3 rfl (fun _ _ => rfl) (after0_3 m c) t d
theorem before0_4 (c : Dev nD) (t : Fin cfg0.N) (d) : (dats m 0 c).before 4 t d = iblk m c 4 t :=
  before_in m c 4 rfl (fun _ _ => rfl) (after0_4 m c) t d
theorem before0_5 (c : Dev nD) (t : Fin cfg0.N) (d) : (dats m 0 c).before 5 t d = iblk m c 5 t :=
  before_in m c 5 rfl (fun _ _ => rfl) (after0_5 m c) t d

/-! ## The body at a point -/

/-- What the body holds when it starts, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and when it ends. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body's run, with each input at its block, and what it borrows besides the windows handed over and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    after0_0, after0_1, after0_2, after0_3, after0_4, after0_5, after0_6, after0_7]
  unfold xAt lanesAt
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c _ _ _ _ _ _ _ _ _ _ _ _ _ _ _ _ _ _ (iblk m c 0 t) (iblk m c 1 t) (iblk m c 2 t) (iblk m c 3 t) (iblk m c 4 t) (iblk m c 5 t) (V m c main_arg1)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, H2, H3, H4, H5, H6, H7, HS0, Hq0, Hq1, Hq2, Hq3, Hq4, Hq5, Hq6, Hq7, Hh0, ⟨%W', HW'⟩⟩
  isplitl [HS0 Hg Hq0 Hq1 Hq2 Hq3 Hq4 Hq5 Hq6 Hq7 Hh0]
  · isplitl [HS0]
    · iexact HS0
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's entry for the body, at the buffers it is handed. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The launch: every fair execution of @main ends with the pipeline's arrays at their last contents, every other buffer
    at what the host operations after the region leave, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

end Cert.KernelIdeal.Net

end
-- ==== Proof.Values.lean ====
/- What the ideal kernel's run leaves: the argument arrays as launched, the two results as functions of the arguments, and
   every counter at zero. -/
module

public import proofs.«01_k».proof.Proof.Launch

@[expose] public section

set_option maxRecDepth 16384

noncomputable section

namespace Cert.KernelIdeal.Net

open Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## Each operand's one block is its array -/

theorem index_0 : ∀ t : Fin cfg0.N, win0_0.index t 0 = 0 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel

theorem iblk_0 (c : Dev nD) (t : Fin cfg0.N) :
    iblk m c 0 t = m ((c : Thread nD τ).loc main_arg0) := by
  funext j; blk_ext [iblk, V, (index_0 t).1, (index_0 t).2]

theorem iblk_1 (c : Dev nD) (t : Fin cfg0.N) :
    iblk m c 1 t = shapeCast S16x1 (m ((c : Thread nD τ).loc main_arg2) : Vec F S16 .i32) shapeCasts_S16_S16x1 := by
  funext j; blk_ext [iblk, V, (index_1 t).1, (index_1 t).2]

theorem iblk_2 (c : Dev nD) (t : Fin cfg0.N) :
    iblk m c 2 t = m ((c : Thread nD τ).loc main_arg3) := by
  funext j; blk_ext [iblk, V, (index_2 t).1, (index_2 t).2]

theorem iblk_3 (c : Dev nD) (t : Fin cfg0.N) :
    iblk m c 3 t = shapeCast S1x128 (m ((c : Thread nD τ).loc main_arg4) : Vec F S128 .f32) shapeCasts_S128_S1x128 := by
  funext j; blk_ext [iblk, V, (index_3 t).1, (index_3 t).2]

theorem iblk_4 (c : Dev nD) (t : Fin cfg0.N) :
    iblk m c 4 t = m ((c : Thread nD τ).loc main_arg5) := by
  funext j; blk_ext [iblk, V, (index_4 t).1, (index_4 t).2]

theorem iblk_5 (c : Dev nD) (t : Fin cfg0.N) :
    iblk m c 5 t = shapeCast S1x128 (m ((c : Thread nD τ).loc main_arg6) : Vec F S128 .f32) shapeCasts_S128_S1x128 := by
  funext j; blk_ext [iblk, V, (index_5 t).1, (index_5 t).2]

/-- The array left in HBM, read whole, is the argument. -/
theorem read_hbm (c : Dev nD) : hbM0_0.view.read (Elt F) (V m c main_arg1) = m ((c : Thread nD τ).loc main_arg1) :=
  V_main_arg1 m c

/-! ## The results in terms of the arguments -/

/-- The first result, -/
def resX (c : Dev nD) : Vec F S16x4096 .f32 :=
  outX (m ((c : Thread nD τ).loc main_arg0)) (m ((c : Thread nD τ).loc main_arg3))
    (shapeCast S1x128 (m ((c : Thread nD τ).loc main_arg4) : Vec F S128 .f32) shapeCasts_S128_S1x128) (m ((c : Thread nD τ).loc main_arg5))
    (shapeCast S1x128 (m ((c : Thread nD τ).loc main_arg6) : Vec F S128 .f32) shapeCasts_S128_S1x128) (m ((c : Thread nD τ).loc main_arg1))

/-- the second one on every lane, -/
def resLanes (c : Dev nD) : Vec F S16x128 .i32 :=
  outIdx (m ((c : Thread nD τ).loc main_arg0)) (shapeCast S16x1 (m ((c : Thread nD τ).loc main_arg2) : Vec F S16 .i32) shapeCasts_S16_S16x1)
    (m ((c : Thread nD τ).loc main_arg3))
    (shapeCast S1x128 (m ((c : Thread nD τ).loc main_arg4) : Vec F S128 .f32) shapeCasts_S128_S1x128) (m ((c : Thread nD τ).loc main_arg5))
    (shapeCast S1x128 (m ((c : Thread nD τ).loc main_arg6) : Vec F S128 .f32) shapeCasts_S128_S1x128) (m ((c : Thread nD τ).loc main_arg1))

/-- and the second one, lane 0 of every row. -/
def resIdx (c : Dev nD) : Vec F S16 .i32 :=
  shapeCast S16 (extractStridedSlice S16x1 ![0, 0] (resLanes m c) slices_S16x128_S16x1_0_0) shapeCasts_S16x1_S16

theorem xAt_eq (c : Dev nD) (t : Fin cfg0.N) : xAt m c t = resX m c := by
  unfold xAt resX; rw [iblk_0, iblk_2, iblk_3, iblk_4, iblk_5, read_hbm]

theorem lanesAt_eq (c : Dev nD) (t : Fin cfg0.N) : lanesAt m c t = resLanes m c := by
  unfold lanesAt resLanes; rw [iblk_0, iblk_1, iblk_2, iblk_3, iblk_4, iblk_5, read_hbm]

/-- The first output's array after the run. -/
theorem arr6 (c : Dev nD) : (dats m 0 c).arrAt 6 cfg0.N = resX m c := by
  refine (dats m 0 c).arrAt_eq_of_after_last 6 ⟨0, by decide⟩ (by decide +kernel) _ fun j => ?_
  rw [after0_6, xAt_eq]; rfl

/-- The second output's array after the run. -/
theorem arr7 (c : Dev nD) : (dats m 0 c).arrAt 7 cfg0.N = resLanes m c := by
  refine (dats m 0 c).arrAt_eq_of_after_last 7 ⟨0, by decide⟩ (by decide +kernel) _ fun j => ?_
  rw [after0_7, lanesAt_eq]; rfl

/-- The second result after the host operations that follow the region. -/
theorem tail_idx (c : Dev nD) :
    Pipeline.afterTail₀ cfgs (dats m) 0 (V0 m) [hostOps1] c main_v0_1 = resIdx m c := by
  have h7 := (Pipeline.withArrays_arr spec0 launch0.win.arr_inj c (V0 m c) (fun w => (dats m 0 c).arrAt w cfg0.N) 7).trans (arr7 m c)
  unfold Pipeline.afterTail₀
  show StableHlo.after hostOps1 _ (Proc.devRef .tc main_v0_1) = _
  after_results
  unfold resIdx
  rw [← h7]
  rfl

section Kept
variable {m} {r : PUnit × MemSt nD τ sig (Elt F)}
  (h : Pipeline.FramePost cfgs (dats m) 0 (Pipeline.afterTail₀ cfgs (dats m) 0 (V0 m) [hostOps1]) r)
include h

/-- After the run a buffer that no window is over and no later operation writes is as the region found it, -/
theorem rest_eq (c : Dev nD) (b : Ref sig .tc) (hs : b.isScoped = false) (h4 : b ≠ main_call0_v4) (h5 : b ≠ main_v0_1)
    (hw : ∀ w, Pipeline.arrRef spec0 w ≠ b) : r.2.mem ((c : Thread nD τ).loc b) = V m c b :=
  ((h c).2 b (Pipeline.mem_restRefs_of b hs hw)).trans (tail_keeps m (dats m) c b h4 h5 hw)

/-- and so is the array of an input window. -/
theorem in_eq (c : Dev nD) (w : Fin cfg0.W) (hin : (cfg0.win w).isOut = false) :
    r.2.mem ((c : Thread nD τ).loc (Pipeline.arrRef spec0 w)) = V m c (Pipeline.arrRef spec0 w) :=
  ((h c).1 w).trans (((dats m 0 c).arrAt_in w hin _).trans (A_eq m c w))

end Kept

/-- The whole run: the arguments end as launched, the results at `resX` and `resIdx`, the counters at zero. -/
theorem run : θ_run defs (onTc (τ := τ) (main (F := F))) ⟨m, fun _ => 0, ρ⟩ (fun r => (∀ c : Dev nD,
      r.2.mem ((c.tc : Thread nD τ).loc main_v0_0) = resX m c
      ∧ r.2.mem ((c.tc : Thread nD τ).loc main_v0_1) = resIdx m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 6).trans (arr6 m c),
    ((h.1 c).2 main_v0_1 (Pipeline.mem_restRefs_of main_v0_1 (by decide) (by decide))).trans (tail_idx m c),
    (in_eq h.1 c 0 rfl).trans (V_main_arg0 m c),
    (rest_eq h.1 c main_arg1 (by decide) (by decide) (by decide) (by decide)).trans (V_main_arg1 m c),
    (rest_eq h.1 c main_arg2 (by decide) (by decide) (by decide) (by decide)).trans (V_main_arg2 m c),
    (in_eq h.1 c 2 rfl).trans (V_main_arg3 m c),
    (rest_eq h.1 c main_arg4 (by decide) (by decide) (by decide) (by decide)).trans (V_main_arg4 m c),
    (in_eq h.1 c 4 rfl).trans (V_main_arg5 m c),
    (rest_eq h.1 c main_arg6 (by decide) (by decide) (by decide) (by decide)).trans (V_main_arg6 m c)⟩, h.2⟩)
    (run_main m ρ)

end Cert.KernelIdeal.Net

end
-- ==== Proof.Words.lean ====
/- The kernel read on words and the kernel read over the extended reals are one program: no operation of it was replaced
   between the two. So what `Values` proves of the second, at any reading of floats, is so of the first. -/
module

public import proofs.«01_k».proof.Proof.Gen.Kernel
public import proofs.«01_k».proof.Proof.Values

@[expose] public section

set_option maxRecDepth 16384

noncomputable section

namespace Cert.Kernel.Net

open Idealize.ShloMosaic Idealize.SL.Sem

variable {F : FTy → Type} [FloatOps F]

/-- The kernel's body is the same in both. -/
theorem bodies_eq : (defs₀ (F := F) : Defs Cert.KernelIdeal.nD Cert.KernelIdeal.τ Cert.KernelIdeal.sig (Elt F) Cert.KernelIdeal.Λ₀)
    = Cert.KernelIdeal.defs₀ := by
  unfold defs₀ Cert.KernelIdeal.defs₀
  refine congrArg Defs.onTc ?_
  funext l x
  match l, x with
  | 0, (t, s) => rfl

/-- So is the table with the pipeline in it. -/
theorem tables_eq : (defs (F := F) : Defs Cert.KernelIdeal.nD Cert.KernelIdeal.τ Cert.KernelIdeal.sig (Elt F)
      (Pipeline.Sig Cert.KernelIdeal.Λ₀ (Fin 1) fun p => (Cert.KernelIdeal.pcfgs (F := F) p).Adm))
    = Cert.KernelIdeal.defs :=
  congrArg (Pipeline.defs Cert.KernelIdeal.pcfgs) bodies_eq

/-- So is the host function. -/
theorem main_eq : main (F := F) = Cert.KernelIdeal.main (F := F) := rfl

/-- A run of the one is a run of the other. -/
theorem run_of (s : MemSt nD τ sig (Elt F)) (Q : PUnit × MemSt nD τ sig (Elt F) → Prop)
    (h : θ_run (Cert.KernelIdeal.defs (F := F)) (onTc (τ := Cert.KernelIdeal.τ) (Cert.KernelIdeal.main (F := F))) s Q) :
    θ_run (defs (F := F)) (onTc (τ := τ) (main (F := F))) s Q := by
  rw [← tables_eq, ← main_eq] at h
  exact h

end Cert.Kernel.Net

end
-- ==== Proof.Reference.lean ====
/- The reference's two results as functions of its arguments, and its run. -/
module

public import proofs.«01_k».proof.Proof.Gen.ReferenceIdeal
public import Idealize.ShloMosaic.Lib.Claim

@[expose] public section

set_option maxRecDepth 16384

noncomputable section

namespace Cert.ReferenceIdeal.Net

open Cert.ReferenceIdeal
open Idealize.ShloMosaic Idealize.SL.Sem
open Facts₀ Facts

variable {F : FTy → Type} [FloatOps F]

/-- The rows `k = relu (stim · Wk + bk)`. -/
def refKeys (stim : Vec F S16x128 .f32) (wk : Vec F S128x128 .f32) (bk : Vec F S128 .f32) : Vec F S16x128 .f32 :=
  maximumf
    (addf (Host.dotGeneral dot_S16x128_S128x128_S16x128_1_0_0_1_n_n none stim wk)
      (broadcastInDim S16x128 ![0, 1] bcast_S1x128_S16x128_0_1 (broadcastInDim S1x128 ![1] bcast_S128_S1x128_1 bk)))
    (broadcastInDim S16x128 ![] bcast_S_S16x128 (constant S_ .f32 0x00000000#32))

/-- The vectors `v = relu (vals · Wv + bv)`. -/
def refVals (vals : Vec F S16x4096x128 .f32) (wv : Vec F S128x128 .f32) (bv : Vec F S128 .f32) : Vec F S16x4096x128 .f32 :=
  maximumf
    (addf (Host.dotGeneral dot_S16x4096x128_S128x128_S16x4096x128_2_0_01_1_n_n none vals wv)
      (broadcastInDim S16x4096x128 ![0, 1, 2] bcast_S1x1x128_S16x4096x128_0_1_2
        (broadcastInDim S1x1x128 ![2] bcast_S128_S1x1x128_2 bv)))
    (broadcastInDim S16x4096x128 ![] bcast_S_S16x4096x128 (constant S_ .f32 0x00000000#32))

/-- The first result: the sum of `k * v` over the last axis. -/
def refX (stim : Vec F S16x128 .f32) (vals : Vec F S16x4096x128 .f32) (wk : Vec F S128x128 .f32) (bk : Vec F S128 .f32)
    (wv : Vec F S128x128 .f32) (bv : Vec F S128 .f32) : Vec F S16x4096 .f32 :=
  Host.reduceAdd
    (mulf
      (broadcastInDim S16x4096x128 ![0, 1, 2] bcast_S16x1x128_S16x4096x128_0_1_2
        (broadcastInDim S16x1x128 ![0, 2] bcast_S16x128_S16x1x128_0_2 (refKeys stim wk bk)))
      (refVals vals wv bv))
    (constant S_ .f32 0x00000000#32) reducesTo_S16x4096x128_S16x4096_d2 h_S_

/-- `x` with -∞ at the positions past the row's length. -/
def refMasked (lens : Vec F S16 .i32) (x : Vec F S16x4096 .f32) : Vec F S16x4096 .f32 :=
  select
    (cmpi .slt
      (broadcastInDim S16x4096 ![0, 1] bcast_S1x4096_S16x4096_0_1
        (broadcastInDim S1x4096 ![1] bcast_S4096_S1x4096_1 (iotaInDim S4096 32 0)))
      (broadcastInDim S16x4096 ![0, 1] bcast_S16x1_S16x4096_0_1 (broadcastInDim S16x1 ![0] bcast_S16_S16x1_0 lens)))
    x (broadcastInDim S16x4096 ![] bcast_S_S16x4096 (constant S_ .f32 0xFF800000#32))

/-- The position of each row's maximum. -/
def refArg (x : Vec F S16x4096 .f32) : Vec F S16 .i32 := fun j =>
  (Host.argReduce reducer_argmax_f32_i32 x (iotaInDim S16x4096 32 1) (constant S_ .f32 0xFF800000#32) (constantI S_ 32 0#32)
    reducesTo_S16x4096_S16_d1 h_S_ j).2

/-- The reference's run: its results are `refX` and the arg-max of `refX` masked, its arguments end as launched. -/
theorem run (m : (ℓ : Loc nD τ sig) → Buf (Elt F) ℓ) (g : Dev nD → PrngReg) :
    θ_run defs (onTc (τ := τ) (main (F := F))) ⟨m, fun _ => 0, g⟩ (fun r => ∀ c : Dev nD,
      r.2.mem ((c.tc : Thread nD τ).loc main_v13)
          = refX (F := F) (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_v21)
          = refArg (F := F) (refMasked (F := F) (m ((c.tc : Thread nD τ).loc main_arg2))
            (refX (F := F) (m ((c.tc : Thread nD τ).loc main_arg0)) (m ((c.tc : Thread nD τ).loc main_arg1)) (m ((c.tc : Thread nD τ).loc main_arg3))
              (m ((c.tc : Thread nD τ).loc main_arg4)) (m ((c.tc : Thread nD τ).loc main_arg5)) (m ((c.tc : Thread nD τ).loc main_arg6))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  all_goals rfl

end Cert.ReferenceIdeal.Net

end
-- ==== Proof.Best.lean ====
/- The best of a set of (value, position) pairs: the largest value and, of the pairs that hold it, the one whose position,
   read as a signed integer, comes first. Both programs are met at this description. -/
module

public import Idealize.ShloMosaic.PureOps.Ideal.Laws
public import Idealize.ShloMosaic.Lib.Pointwise

@[expose] public section

noncomputable section

namespace Cert.KernelIdeal.Net

open Idealize.ShloMosaic

/-- A value with its position. -/
abbrev Pair := EReal × BitVec 32

/-- `r` is the best pair of `S`. -/
def Best (S : Set Pair) (r : Pair) : Prop :=
  r ∈ S ∧ ∀ p ∈ S, p.1 < r.1 ∨ (p.1 = r.1 ∧ r.2.toInt ≤ p.2.toInt)

/-- A set has at most one best pair. -/
theorem Best.unique {S : Set Pair} {r r' : Pair} (h : Best S r) (h' : Best S r') : r = r' := by
  have h1 := h.2 r' h'.1
  have h2 := h'.2 r h.1
  have e1 : r.1 = r'.1 := by
    rcases h1 with a | a
    · rcases h2 with b | b
      · exact absurd a b.not_gt
      · exact b.1
    · exact a.1.symm
  have e2 : r.2 = r'.2 := by
    rw [e1] at h1 h2
    have a := (h1.resolve_left (lt_irrefl _)).2
    have b := (h2.resolve_left (lt_irrefl _)).2
    exact BitVec.eq_of_toInt_eq (le_antisymm a b)
  exact Prod.ext e1 e2

/-- Does `a` take the place of `b`: its value is larger, or equal at an earlier position. -/
def Beats (a b : Pair) : Prop := b.1 < a.1 ∨ (a.1 = b.1 ∧ a.2.toInt < b.2.toInt)

open Classical in
/-- The better one of two pairs. -/
def pick (a b : Pair) : Pair := if Beats a b then a else b

/-- The better one of two sets' best pairs is the best of both sets together. -/
theorem Best.union {S T : Set Pair} {a b : Pair} (ha : Best S a) (hb : Best T b) : Best (S ∪ T) (pick a b) := by
  unfold pick
  split
  · rename_i h
    refine ⟨Or.inl ha.1, fun p hp => ?_⟩
    rcases hp with hp | hp
    · exact ha.2 p hp
    · rcases hb.2 p hp with g | g <;> rcases h with h | h
      · exact Or.inl (g.trans h)
      · exact Or.inl (h.1 ▸ g)
      · exact Or.inl (g.1 ▸ h)
      · exact Or.inr ⟨g.1.trans h.1.symm, by omega⟩
  · rename_i h
    refine ⟨Or.inr hb.1, fun p hp => ?_⟩
    rcases hp with hp | hp
    · have hab : a.1 < b.1 ∨ (a.1 = b.1 ∧ b.2.toInt ≤ a.2.toInt) := by
        rcases lt_trichotomy a.1 b.1 with k | k | k
        · exact Or.inl k
        · exact Or.inr ⟨k, not_lt.mp fun k' => h (Or.inr ⟨k, k'⟩)⟩
        · exact absurd (Or.inl k) h
      rcases ha.2 p hp with g | g <;> rcases hab with k | k
      · exact Or.inl (g.trans k)
      · exact Or.inl (k.1 ▸ g)
      · exact Or.inl (g.1 ▸ k)
      · exact Or.inr ⟨g.1.trans k.1, by omega⟩
    · exact hb.2 p hp

/-- A pair alone is its own best. -/
theorem Best.single (a : Pair) : Best {a} a := ⟨rfl, fun p hp => Or.inr ⟨congrArg Prod.fst hp, by rw [show p = a from hp]⟩⟩

/-- Picking along a list, from the best pair of `S`, gives the best of `S` and the list. -/
theorem Best.foldl {S : Set Pair} {a : Pair} (ha : Best S a) (L : List Pair) :
    Best (S ∪ {p | p ∈ L}) (L.foldl pick a) := by
  induction L generalizing S a with
  | nil => simpa using ha
  | cons b L ih =>
    have h := ih (ha.union (Best.single b))
    rw [Set.union_assoc] at h
    have e : ({b} ∪ {p | p ∈ L} : Set Pair) = {p | p ∈ b :: L} := by ext p; simp
    rwa [e] at h

/-- The least of finitely many words, with a first one: it is at most each, and one of them. -/
theorem fold_minsi {ι : Type} (s : Finset ι) (i : BitVec 32) (f : ι → BitVec 32) :
    ((s.fold IntOp.minsi i f).toInt ≤ i.toInt ∧ ∀ k ∈ s, (s.fold IntOp.minsi i f).toInt ≤ (f k).toInt)
      ∧ (s.fold IntOp.minsi i f = i ∨ ∃ k ∈ s, s.fold IntOp.minsi i f = f k) := by
  classical
  induction s using Finset.induction_on with
  | empty => simp
  | insert a s ha ih =>
    obtain ⟨⟨h1, h2⟩, h3⟩ := ih
    rw [Finset.fold_insert ha]
    generalize s.fold IntOp.minsi i f = r at *
    have hm : (IntOp.minsi (f a) r = f a ∧ (f a).toInt ≤ r.toInt) ∨ (IntOp.minsi (f a) r = r ∧ r.toInt ≤ (f a).toInt) := by
      unfold IntOp.minsi
      by_cases h : (f a).slt r = true
      · rw [if_pos h]; rw [BitVec.slt_iff_toInt_lt] at h; exact Or.inl ⟨rfl, h.le⟩
      · rw [if_neg h]; rw [BitVec.slt_iff_toInt_lt] at h; exact Or.inr ⟨rfl, not_lt.mp h⟩
    rcases hm with ⟨e, hm⟩ | ⟨e, hm⟩ <;> rw [e]
    · refine ⟨⟨hm.trans h1, fun k hk => ?_⟩, Or.inr ⟨a, Finset.mem_insert_self _ _, rfl⟩⟩
      rcases Finset.mem_insert.mp hk with rfl | hk
      · exact le_refl _
      · exact hm.trans (h2 k hk)
    · refine ⟨⟨h1, fun k hk => ?_⟩, ?_⟩
      · rcases Finset.mem_insert.mp hk with rfl | hk
        · exact hm
        · exact h2 k hk
      · rcases h3 with h3 | ⟨k, hk, h3⟩
        · exact Or.inl h3
        · exact Or.inr ⟨k, Finset.mem_insert_of_mem hk, h3⟩

/-- The largest value of finitely many, and the least position among those that hold it: the best of the pairs. The
    positions of the others are replaced by a word `big` past every position. -/
theorem best_chunk {n : ℕ} (hn : 0 < n) (f : Fin n → EReal) (pos : Fin n → BitVec 32) (big init : BitVec 32)
    (hpos : ∀ k, (pos k).toInt < big.toInt) (hinit : big.toInt ≤ init.toInt) :
    Best {p | ∃ k, p = (f k, pos k)}
      (Finset.univ.fold max ⊥ f,
        Finset.univ.fold IntOp.minsi init fun k => Scalar.select (Ideal.cmp .oeq (f k) (Finset.univ.fold max ⊥ f)) (pos k) big) := by
  have hne : (Finset.univ : Finset (Fin n)).Nonempty := ⟨⟨0, hn⟩, Finset.mem_univ _⟩
  have hs : Finset.univ.fold max ⊥ f = Finset.univ.sup f := rfl
  rw [hs]
  generalize hM : Finset.univ.sup f = M
  have hle : ∀ k, f k ≤ M := fun k => hM ▸ Finset.le_sup (Finset.mem_univ k)
  obtain ⟨k₀, -, hk₀⟩ := Finset.exists_mem_eq_sup Finset.univ hne f
  rw [hM] at hk₀
  have hsel : ∀ k, Scalar.select (Ideal.cmp .oeq (f k) M) (pos k) big = if f k = M then pos k else big := by
    intro k; by_cases h : f k = M <;> simp [Scalar.select, Ideal.cmp, h]
  simp only [hsel]
  obtain ⟨⟨-, hmin⟩, hmem⟩ := fold_minsi Finset.univ init fun k => if f k = M then pos k else big
  generalize Finset.univ.fold IntOp.minsi init (fun k => if f k = M then pos k else big) = r at *
  have h₀ : r.toInt ≤ (pos k₀).toInt := by simpa [← hk₀] using hmin k₀ (Finset.mem_univ _)
  have hlt : r.toInt < big.toInt := lt_of_le_of_lt h₀ (hpos k₀)
  have hr : ∃ k, f k = M ∧ r = pos k := by
    rcases hmem with h | ⟨k, -, h⟩
    · rw [h] at hlt; exact absurd hinit hlt.not_ge
    · by_cases e : f k = M
      · exact ⟨k, e, by rw [h, if_pos e]⟩
      · rw [if_neg e] at h; rw [h] at hlt; exact absurd hlt (lt_irrefl _)
  obtain ⟨k, e, hk⟩ := hr
  refine ⟨⟨k, by rw [e, hk]⟩, ?_⟩
  rintro p ⟨l, rfl⟩
  rcases (hle l).lt_or_eq with g | g
  · exact Or.inl g
  · exact Or.inr ⟨g, by simpa [g] using hmin l (Finset.mem_univ _)⟩

end Cert.KernelIdeal.Net

end
-- ==== Proof.MathX.lean ====
/- The first result, over the extended reals: the kernel's chunks and the reference give the same sums. -/
module

public import proofs.«01_k».proof.Proof.Chunk
public import proofs.«01_k».proof.Proof.Reference
public import Idealize.ShloMosaic.Lib.Pointwise
public import Idealize.ShloMosaic.PureOps.Ideal.Laws

@[expose] public section

set_option maxRecDepth 16384

noncomputable section

namespace Cert.KernelIdeal.Net

open Cert.KernelIdeal.Gen
open Idealize.ShloMosaic Idealize.SL.Sem
open Cert.ReferenceIdeal.Net (refX refKeys refVals refMasked refArg)

/-- The kernel's row `k` is the reference's. -/
theorem keys_eq (stim : Vec Ideal S16x128 .f32) (w : Vec Ideal S128x128 .f32) (b : Vec Ideal S128 .f32) :
    keys stim w (shapeCast S1x128 b shapeCasts_S128_S1x128) = refKeys stim w b := by
  funext j; idx_vars j
  pointwise [keys, k0_pay4, k0_pay3, refKeys]

/-- Row `a`, place `l` of chunk `i` is row `a`, position `512 i + l` of the inputs. -/
theorem part_ix3 (vals : Vec Ideal S16x4096x128 .f32) (i : Fin 8) (a : Fin 16) (l : Fin 512) (h : Fin 128) :
    part vals i (ix3 a l h) = vals (ix3 a ⟨512 * i.val + l.val, by omega⟩ h) := by
  refine congrArg vals (funext fun d => Fin.ext ?_)
  match d with
  | 0 => show 0 + 1 * a.val = a.val; omega
  | 1 => show 512 * i.val + 1 * l.val = 512 * i.val + l.val; omega
  | 2 => show 0 + 1 * h.val = h.val; omega

/-- The first result at row `a`, position `512 i + l`. -/
theorem chunks_eq (stim : Vec Ideal S16x128 .f32) (vals : Vec Ideal S16x4096x128 .f32) (wk : Vec Ideal S128x128 .f32)
    (bk : Vec Ideal S128 .f32) (wv : Vec Ideal S128x128 .f32) (bv : Vec Ideal S128 .f32) (i : Fin 8) (a : Fin 16) (l : Fin 512) :
    chunks stim wk (shapeCast S1x128 bk shapeCasts_S128_S1x128) wv (shapeCast S1x128 bv shapeCasts_S128_S1x128) (part vals) i (ix2 a l)
      = refX stim vals wk bk wv bv (ix2 a ⟨512 * i.val + l.val, by omega⟩) := by
  unfold chunks; rw [keys_eq]
  pointwise [chunkX, k0_pay5, refX, refVals]
  refine Finset.sum_congr rfl fun h _ => ?_
  simp only [part_ix3]
  exact mul_comm _ _

/-- The first result is the reference's. -/
theorem outX_eq (stim : Vec Ideal S16x128 .f32) (vals : Vec Ideal S16x4096x128 .f32) (wk : Vec Ideal S128x128 .f32)
    (bk : Vec Ideal S128 .f32) (wv : Vec Ideal S128x128 .f32) (bv : Vec Ideal S128 .f32) :
    outX stim wk (shapeCast S1x128 bk shapeCasts_S128_S1x128) wv (shapeCast S1x128 bv shapeCasts_S128_S1x128) vals
      = refX stim vals wk bk wv bv := by
  funext j; idx_vars j
  refine (chunks_eq stim vals wk bk wv bv _ _ _).trans (congrArg (refX stim vals wk bk wv bv) (congrArg₂ ix2 rfl (Fin.ext ?_)))
  exact Nat.div_add_mod _ 512

end Cert.KernelIdeal.Net

end
-- ==== Proof.MathIdx.lean ====
/- The second result, over the extended reals: the kernel's running maximum and the reference's reduction both end at the
   position of the best pair of the same set, every row's masked values with their positions, and (-∞, 0). -/
module

public import proofs.«01_k».proof.Proof.Best
public import proofs.«01_k».proof.Proof.MathX

@[expose] public section

set_option maxRecDepth 16384

noncomputable section

namespace Cert.KernelIdeal.Net

open Cert.KernelIdeal.Gen
open Idealize.ShloMosaic Idealize.SL.Sem
open Cert.ReferenceIdeal.Net (refX refKeys refVals refMasked refArg)

/-- The word of -∞ is the least extended real. -/
theorem ofBits_bot : Ideal.ofBits .f32 0xFF800000#32 = (⊥ : EReal) := by
  simp [Ideal.ofBits, Ideal.ieee]

/-- Row `a`'s pairs at positions below `n`, and (-∞, 0). -/
def seen (x : Vec Ideal S16x4096 .f32) (a : Fin 16) (n : ℕ) : Set Pair :=
  {((⊥ : EReal), 0#32)} ∪ {p | ∃ k : Fin 4096, k.val < n ∧ p = (x (ix2 a k), BitVec.ofNat 32 k.val)}

open Classical in
/-- A selection by the bits of `Beats` is the choice by `Beats`. -/
theorem select_beats {α : Type} (a b : Pair) (u v : α) :
    Scalar.select (IntOp.ori (BitVec.ofBool (decide (b.1 < a.1)))
      (IntOp.andi (BitVec.ofBool (decide (a.1 = b.1))) (IntOp.cmpi .slt a.2 b.2))) u v = if Beats a b then u else v := by
  have h : IntOp.cmpi .slt a.2 b.2 = BitVec.ofBool (decide (a.2.toInt < b.2.toInt)) := by
    simp only [IntOp.cmpi, BitVec.slt]
  rw [h]
  unfold Beats
  by_cases h1 : b.1 < a.1 <;> by_cases h2 : a.1 = b.1 <;> by_cases h3 : a.2.toInt < b.2.toInt <;>
    simp [Scalar.select, IntOp.ori, IntOp.andi, h1, h2, h3]

/-- Choosing both parts of a pair by one condition is choosing the pair. -/
theorem pick_eq (a b : Pair) :
    pick a b = (Scalar.select (IntOp.ori (BitVec.ofBool (decide (b.1 < a.1)))
        (IntOp.andi (BitVec.ofBool (decide (a.1 = b.1))) (IntOp.cmpi .slt a.2 b.2))) a.1 b.1,
      Scalar.select (IntOp.ori (BitVec.ofBool (decide (b.1 < a.1)))
        (IntOp.andi (BitVec.ofBool (decide (a.1 = b.1))) (IntOp.cmpi .slt a.2 b.2))) a.2 b.2) := by
  rw [select_beats, select_beats]; unfold pick; split <;> rfl

/-- The reference's reduction body takes the better pair. -/
theorem reducer_eq (a b : Pair) : Cert.ReferenceIdeal.reducer_argmax_f32_i32 (F := Ideal) a b = pick a b := by
  rw [pick_eq]
  have hv : IntOp.ori (FloatOps.cmpf (F := Ideal) (φ := .f32) .ogt a.1 b.1) (FloatOps.cmpf (F := Ideal) (φ := .f32) .une a.1 a.1)
      = BitVec.ofBool (decide (b.1 < a.1)) := by
    simp only [Ideal.cmpf_def, Ideal.cmp]
    by_cases h : b.1 < a.1 <;> simp [IntOp.ori, h]
  show (Scalar.select (IntOp.ori _ _) a.1 b.1, Scalar.select (IntOp.ori (IntOp.ori _ _) _) a.2 b.2) = _
  rw [hv]
  refine Prod.ext ?_ rfl
  show Scalar.select (BitVec.ofBool (decide (b.1 < a.1))) a.1 b.1 = Scalar.select _ a.1 b.1
  rw [select_beats a b a.1 b.1]
  by_cases h : b.1 < a.1
  · simp [Scalar.select, Beats, h]
  · by_cases h' : a.1 = b.1 <;> simp [Scalar.select, Beats, h, h']

/-- The reference's second result is the position of the best pair of the row. -/
theorem refArg_best (x : Vec Ideal S16x4096 .f32) (a : Fin 16) :
    ∃ r : Pair, Best (seen x a 4096) r ∧ refArg x (ix1 a) = r.2 := by
  refine ⟨_, ?_, congrArg Prod.snd (congrFun (Ideal.argReduce_eq_reduce2 _ _ _ _ _ _ _) (ix1 a))⟩
  rw [Host.reduce2_eq_foldl_fiber, show Cert.ReferenceIdeal.reducer_argmax_f32_i32 (F := Ideal) = pick from
    funext fun p => funext fun q => reducer_eq p q]
  have h := (Best.single ((⊥ : EReal), 0#32)).foldl
    (Host.argReduceFiber x (iotaInDim S16x4096 32 1) Cert.ReferenceIdeal.Facts₀.reducesTo_S16x4096_S16_d1 (ix1 a))
  have e : ({((⊥ : EReal), 0#32)} ∪ {p | p ∈ Host.argReduceFiber x (iotaInDim S16x4096 32 1)
      Cert.ReferenceIdeal.Facts₀.reducesTo_S16x4096_S16_d1 (ix1 a)} : Set Pair) = seen x a 4096 := by
    refine congrArg _ (Set.ext fun p => ?_)
    simp only [Host.argReduceFiber, Set.mem_setOf_eq, List.mem_map, List.mem_filter, List.mem_finRange, true_and, decide_eq_true_eq]
    constructor
    · rintro ⟨n, hn, rfl⟩
      obtain ⟨k, hk⟩ := (Shape.ReducesTo.fiber_r2_a1 Cert.ReferenceIdeal.Facts₀.reducesTo_S16x4096_S16_d1 (ix1 a) _).mp hn
      exact ⟨k, k.isLt, by rw [← hk]; rfl⟩
    · rintro ⟨k, -, rfl⟩
      refine ⟨S16x4096.rowMajor (ix2 a k), ?_, ?_⟩
      · rw [Equiv.symm_apply_apply]
        exact (Shape.ReducesTo.fiber_r2_a1 Cert.ReferenceIdeal.Facts₀.reducesTo_S16x4096_S16_d1 (ix1 a) _).mpr ⟨k, rfl⟩
      · rw [Equiv.symm_apply_apply]; rfl
  rw [e] at h
  have hb : ((constant (F := Ideal) Cert.ReferenceIdeal.S_ .f32 0xFF800000#32) (Shape.Idx.first Cert.ReferenceIdeal.Facts₀.h_S_), (constantI Cert.ReferenceIdeal.S_ 32 0#32) (Shape.Idx.first Cert.ReferenceIdeal.Facts₀.h_S_))
      = (((⊥ : EReal), 0#32) : Pair) := Prod.ext ofBits_bot rfl
  rw [hb]
  exact h

/-- A chunk's positions at a place. -/
theorem chunkPos_at (n : ℕ) (a : Fin 16) (l : Fin 512) :
    chunkPos (BitVec.ofNat 32 (512 * n)) (ix2 a l) = BitVec.ofNat 32 (512 * n + l.val) := by
  pointwise [chunkPos]
  show BitVec.ofNat 32 l.val + BitVec.ofNat 32 (512 * n) = _
  rw [← BitVec.ofNat_add, Nat.add_comm]

/-- A chunk's masked values at a place. -/
theorem chunkMasked_at (lens : Vec Ideal S16 .i32) (x : Vec Ideal S16x4096 .f32) (n : ℕ) (hn : n < 8) (y : FVec Ideal S16x512 .f32)
    (hy : ∀ a l, y (ix2 a l) = x (ix2 a ⟨512 * n + l.val, by omega⟩)) (a : Fin 16) (l : Fin 512) :
    chunkMasked (BitVec.ofNat 32 (512 * n)) (k0_pay6 (F := Ideal) (shapeCast S16x1 lens shapeCasts_S16_S16x1)) y (ix2 a l)
      = refMasked lens x (ix2 a ⟨512 * n + l.val, by omega⟩) := by
  pointwise [chunkMasked, k0_pay6, refMasked]
  rw [chunkPos_at, hy]

/-- The step takes the better one of the chunk's pair and the running pair. -/
theorem step_at (o : BitVec 32) (l : IVec S16x1 32) (s : FVec Ideal S16x128 .f32 × IVec S16x128 32) (x : FVec Ideal S16x512 .f32)
    (j : S16x128.Idx) :
    (((step o l s x).1 j, (step o l s x).2 j) : Pair)
      = pick (chunkMaxLanes o l x j, chunkArgLanes o l x j) (s.1 j, s.2 j) := by
  rw [pick_eq]
  pointwise [step, better]

/-- The chunk's pair at a lane. -/
theorem chunkPair_at (o : BitVec 32) (l : IVec S16x1 32) (x : FVec Ideal S16x512 .f32) (a : Fin 16) (b : Fin 128) :
    ((chunkMaxLanes o l x (ix2 a b), chunkArgLanes o l x (ix2 a b)) : Pair)
      = (Finset.univ.fold max ⊥ fun k : Fin 512 => chunkMasked o l x (ix2 a k),
        Finset.univ.fold IntOp.minsi 2147483647#32 fun k : Fin 512 =>
          Scalar.select (Ideal.cmp .oeq (chunkMasked o l x (ix2 a k)) (Finset.univ.fold max ⊥ fun k : Fin 512 => chunkMasked o l x (ix2 a k)))
            (chunkPos o (ix2 a k)) 1073741824#32) := by
  pointwise [chunkMaxLanes, chunkMax, chunkArgLanes]
  simp only [ofBits_bot]

/-- A chunk's pair is the best of the chunk's masked values with their positions. -/
theorem chunk_best (lens : Vec Ideal S16 .i32) (x : Vec Ideal S16x4096 .f32) (n : ℕ) (hn : n < 8) (y : FVec Ideal S16x512 .f32)
    (hy : ∀ a l, y (ix2 a l) = x (ix2 a ⟨512 * n + l.val, by omega⟩)) (a : Fin 16) (b : Fin 128) :
    Best {p | ∃ l : Fin 512, p = (refMasked lens x (ix2 a ⟨512 * n + l.val, by omega⟩), BitVec.ofNat 32 (512 * n + l.val))}
      (chunkMaxLanes (BitVec.ofNat 32 (512 * n)) (k0_pay6 (F := Ideal) (shapeCast S16x1 lens shapeCasts_S16_S16x1)) y (ix2 a b),
        chunkArgLanes (BitVec.ofNat 32 (512 * n)) (k0_pay6 (F := Ideal) (shapeCast S16x1 lens shapeCasts_S16_S16x1)) y (ix2 a b)) := by
  rw [chunkPair_at]
  simp only [chunkMasked_at lens x n hn y hy, chunkPos_at]
  refine best_chunk (by decide) (fun l : Fin 512 => refMasked lens x (ix2 a ⟨512 * n + l.val, by omega⟩))
    (fun l => BitVec.ofNat 32 (512 * n + l.val)) 1073741824#32 2147483647#32 (fun l => ?_) (by decide)
  have := l.isLt
  rw [BitVec.toInt_eq_toNat_of_lt (by rw [BitVec.toNat_ofNat]; omega), BitVec.toNat_ofNat]
  have : (1073741824#32).toInt = 1073741824 := by decide
  omega

/-- Before the first chunk the running pair is (-∞, 0); after `n` chunks it is the best of the positions below `512 n`. -/
theorem running_best (lens : Vec Ideal S16 .i32) (x : Vec Ideal S16x4096 .f32) (y : Fin 8 → FVec Ideal S16x512 .f32)
    (hy : ∀ (i : Fin 8) a l, y i (ix2 a l) = x (ix2 a ⟨512 * i.val + l.val, by omega⟩)) (a : Fin 16) (b : Fin 128) :
    ∀ n ≤ 8, Best (seen (refMasked lens x) a (512 * n))
      ((running (k0_pay6 (F := Ideal) (shapeCast S16x1 lens shapeCasts_S16_S16x1)) y n).1 (ix2 a b),
        (running (k0_pay6 (F := Ideal) (shapeCast S16x1 lens shapeCasts_S16_S16x1)) y n).2 (ix2 a b)) := by
  intro n
  induction n with
  | zero =>
    intro _
    have e : seen (refMasked lens x) a (512 * 0) = {((⊥ : EReal), 0#32)} := by
      unfold seen; simp
    rw [e]
    have h0 : (((running (k0_pay6 (F := Ideal) (shapeCast S16x1 lens shapeCasts_S16_S16x1)) y 0).1 (ix2 a b),
        (running (k0_pay6 (F := Ideal) (shapeCast S16x1 lens shapeCasts_S16_S16x1)) y 0).2 (ix2 a b)) : Pair)
        = ((⊥ : EReal), 0#32) := Prod.ext ofBits_bot rfl
    rw [h0]
    exact Best.single _
  | succ n ih =>
    intro hn
    have hc := chunk_best lens x n (by omega) (y (Fin.ofNat 8 n)) (fun a l => by
      rw [hy]; exact congrArg x (congrArg₂ ix2 rfl (Fin.ext (by simp only [Fin.val_ofNat]; rw [Nat.mod_eq_of_lt (by omega)])))) a b
    have hu := hc.union (ih (by omega))
    rw [← step_at] at hu
    have e : ({p | ∃ l : Fin 512, p = (refMasked lens x (ix2 a ⟨512 * n + l.val, by omega⟩), BitVec.ofNat 32 (512 * n + l.val))}
        ∪ seen (refMasked lens x) a (512 * n) : Set Pair) = seen (refMasked lens x) a (512 * (n + 1)) := by
      ext p
      simp only [seen, Set.mem_union, Set.mem_setOf_eq]
      constructor
      · rintro (⟨l, rfl⟩ | h | ⟨k, hk, h⟩)
        · exact Or.inr ⟨⟨512 * n + l.val, by omega⟩, by show 512 * n + l.val < _; omega, rfl⟩
        · exact Or.inl h
        · exact Or.inr ⟨k, by omega, h⟩
      · rintro (h | ⟨k, hk, h⟩)
        · exact Or.inr (Or.inl h)
        · by_cases hlt : k.val < 512 * n
          · exact Or.inr (Or.inr ⟨k, hlt, h⟩)
          · have hk' : 512 * n + (k.val - 512 * n) = k.val := by omega
            refine Or.inl ⟨⟨k.val - 512 * n, by omega⟩, ?_⟩
            rw [h]
            exact Prod.ext (congrArg (refMasked lens x) (congrArg₂ ix2 rfl (Fin.ext hk'.symm))) (congrArg (BitVec.ofNat 32) hk'.symm)
    rw [e] at hu
    exact hu

/-- On every lane the kernel's second result is the reference's. -/
theorem outIdx_eq (stim : Vec Ideal S16x128 .f32) (vals : Vec Ideal S16x4096x128 .f32) (lens : Vec Ideal S16 .i32)
    (wk : Vec Ideal S128x128 .f32) (bk : Vec Ideal S128 .f32) (wv : Vec Ideal S128x128 .f32) (bv : Vec Ideal S128 .f32)
    (a : Fin 16) (b : Fin 128) :
    outIdx stim (shapeCast S16x1 lens shapeCasts_S16_S16x1) wk (shapeCast S1x128 bk shapeCasts_S128_S1x128) wv
        (shapeCast S1x128 bv shapeCasts_S128_S1x128) vals (ix2 a b)
      = refArg (refMasked lens (refX stim vals wk bk wv bv)) (ix1 a) := by
  obtain ⟨r, hr, e⟩ := refArg_best (refMasked lens (refX stim vals wk bk wv bv)) a
  rw [e]
  exact congrArg Prod.snd ((running_best lens (refX stim vals wk bk wv bv) _
    (fun i a l => chunks_eq stim vals wk bk wv bv i a l) a b 8 le_rfl).unique hr)

end Cert.KernelIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import proofs.«01_k».proof.Proof.Words
public import proofs.«01_k».proof.Proof.Reference
public import proofs.«01_k».proof.Proof.MathIdx
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel on words: it ends, its arguments unchanged and every counter at zero. -/
theorem frame_kernel : Cert.quiescent_Kernel := by
  intro m g _
  exact θ_run_mono (Cert.Kernel.Net.run_of _ _ (Cert.KernelIdeal.Net.run m g)) fun r h => ⟨fun c => (h.1 c).2.2, h.2⟩

/-- The same of the kernel over the extended reals. -/
theorem frame_ideal : Cert.quiescent_KernelIdeal := by
  intro m g _
  exact θ_run_mono (Cert.KernelIdeal.Net.run m g) fun r h => ⟨fun c => (h.1 c).2.2, h.2⟩

/-- The same of the reference, which declares no semaphore. -/
theorem frame_reference : Cert.quiescent_ReferenceIdeal := by
  intro m g _
  exact θ_run_mono (Cert.ReferenceIdeal.Net.run m g) fun r h => ⟨fun c => (h c).2.2, sem_eq_zero_of_no_sems (by decide) r.2⟩

/-- The kernel's first result is the reference's, from arguments that agree. -/
theorem x_eq (m : (ℓ : Loc Cert.KernelIdeal.nD Cert.KernelIdeal.τ Cert.KernelIdeal.sig) → Buf (Elt Ideal) ℓ)
    (c : Dev Cert.KernelIdeal.nD) :
    Cert.ReferenceIdeal.Net.refX (F := Ideal) (m (c.tc.loc Cert.KernelIdeal.main_arg0)) (m (c.tc.loc Cert.KernelIdeal.main_arg1))
        (m (c.tc.loc Cert.KernelIdeal.main_arg3)) (m (c.tc.loc Cert.KernelIdeal.main_arg4)) (m (c.tc.loc Cert.KernelIdeal.main_arg5))
        (m (c.tc.loc Cert.KernelIdeal.main_arg6))
      = Cert.KernelIdeal.Net.resX m c :=
  (Cert.KernelIdeal.Net.outX_eq _ _ _ _ _ _).symm

/-- The kernel's second result is the reference's, from arguments that agree. -/
theorem idx_eq (m : (ℓ : Loc Cert.KernelIdeal.nD Cert.KernelIdeal.τ Cert.KernelIdeal.sig) → Buf (Elt Ideal) ℓ)
    (c : Dev Cert.KernelIdeal.nD) :
    Cert.ReferenceIdeal.Net.refArg (F := Ideal) (Cert.ReferenceIdeal.Net.refMasked (F := Ideal) (m (c.tc.loc Cert.KernelIdeal.main_arg2))
        (Cert.ReferenceIdeal.Net.refX (F := Ideal) (m (c.tc.loc Cert.KernelIdeal.main_arg0)) (m (c.tc.loc Cert.KernelIdeal.main_arg1))
          (m (c.tc.loc Cert.KernelIdeal.main_arg3)) (m (c.tc.loc Cert.KernelIdeal.main_arg4)) (m (c.tc.loc Cert.KernelIdeal.main_arg5))
          (m (c.tc.loc Cert.KernelIdeal.main_arg6))))
      = Cert.KernelIdeal.Net.resIdx m c := by
  funext j; idx_vars j
  pointwise [Cert.KernelIdeal.Net.resIdx]
  exact (Cert.KernelIdeal.Net.outIdx_eq _ _ _ _ _ _ _ _ _).symm

/-- Over the extended reals kernel and reference compute the same two results, and leave their arguments unchanged. -/
theorem algebraic : Cert.algebraic_KernelIdeal_ReferenceIdeal := by
  intro m g m' g' _ hagree
  refine ⟨fun c => Cert.KernelIdeal.Net.resX m c, fun c => Cert.KernelIdeal.Net.resIdx m c,
    θ_run_mono (Cert.KernelIdeal.Net.run m g) fun _ h => h.1,
    θ_run_mono (Cert.ReferenceIdeal.Net.run m' g') fun r h c => ?_⟩
  obtain ⟨h0, h1, hargs⟩ := h c
  obtain ⟨e0, e1, e2, e3, e4, e5, e6⟩ := hagree c
  refine ⟨h0.trans ?_, h1.trans ?_, hargs⟩
  · rw [e0, e1, e3, e4, e5, e6]; exact x_eq m c
  · rw [e0, e1, e2, e3, e4, e5, e6]; exact idx_eq m c

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
